-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S256x256 : Shape := ⟨2, ![256, 256]⟩
abbrev S2 : Shape := ⟨1, ![2]⟩
abbrev S_ : Shape := ⟨0, ![]⟩
abbrev S128x256 : Shape := ⟨2, ![128, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x512, .bf16⟩
  | .hbm, ⟨1, _⟩ => ⟨S512x256, .bf16⟩
  | .local _ .vmem, ⟨0, _⟩ => ⟨S256x512, .bf16⟩
  | .local _ .vmem, ⟨1, _⟩ => ⟨S512x256, .bf16⟩
  | .local _ .vmem, ⟨2, _⟩ => ⟨S256x256, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (d0 : Dev nD) : Fin 2 → Nat :=
  let c0 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v13 : Index := Scalar.indexCast v12
  ![0, v13.toNat]
def k0_off2 (d0 : Dev nD) (c0_i32_10 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_9 : BitVec 32 := 256#32
  let v19 : BitVec 32 := Scalar.muli v2 c256_i32_9
  let v20 : BitVec 32 := Scalar.addi v19 c0_i32_10
  let c0_i32_16 : BitVec 32 := 0#32
  ![v20.toNat, 0]
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v21 : BitVec 32 := Scalar.muli v6 c2_i32_13
  let v22 : BitVec 32 := Scalar.addi c0_i32_14 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v23 : BitVec 32 := Scalar.muli v5 c1_i32_15
  let v24 : BitVec 32 := Scalar.addi v22 v23
  v24.toNat
def k0_off3 (d0 : Dev nD) : Fin 2 → Nat :=
  let c128 : Index := 128#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_19 : BitVec 32 := 256#32
  let v31 : BitVec 32 := Scalar.muli v6 c256_i32_19
  let v32 : Index := Scalar.indexCast v31
  ![128, v32.toNat]
def k0_dev3 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v40 : BitVec 32 := Scalar.muli v6 c2_i32_25
  let v41 : BitVec 32 := Scalar.addi c0_i32_26 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v42 : BitVec 32 := Scalar.muli v5 c1_i32_27
  let v43 : BitVec 32 := Scalar.addi v41 v42
  v43.toNat
def k0_off4 (d0 : Dev nD) : Fin 2 → Nat :=
  let c0_32 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_31 : BitVec 32 := 256#32
  let v50 : BitVec 32 := Scalar.muli v2 c256_i32_31
  let v51 : Index := Scalar.indexCast v50
  ![0, v51.toNat]
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_33 : BitVec 32 := 256#32
  let v54 : BitVec 32 := Scalar.muli v2 c256_i32_33
  let v55 : Index := Scalar.indexCast v54
  let c0_34 : Index := 0#32
  ![v55.toNat, 0]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Pieces.lean ====
/-
  The exchange's geometry: which device a device trades with, the parts of the two buffers the copies read and write,
  and the array every device ends with. The mesh has two rows of two devices, numbered row by row, so device `c` stands
  in row `c / 2` and column `c % 2`; it trades with the device of the other row in its own column.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Value
public import Idealize.ShloMosaic.Lib.ValueIdxCore
public import Idealize.ShloMosaic.Lib.Tactic

@[expose] public section

noncomputable section

namespace Cert.ExchangeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The other device -/

theorem peer_lt (c : Dev nD) : c.val % 2 + 2 - 2 * (c.val / 2) < nD := by
  have h : c.val < 4 := c.isLt
  show _ < 4
  omega

/-- The device in the other row of the mesh and the same column. -/
def peer (c : Dev nD) : Dev nD := ⟨c.val % 2 + 2 - 2 * (c.val / 2), peer_lt c⟩

/-- Trading is mutual. -/
theorem peer_peer (c : Dev nD) : peer (peer c) = c := by revert c; decide

/-- Only the peer of `d` has `d` for its peer. -/
theorem peer_eq_iff {c d : Dev nD} : peer d = c ↔ d = peer c :=
  ⟨fun h => by rw [← h, peer_peer], fun h => by rw [h, peer_peer]⟩

/-- The peer's row is the other one. -/
theorem peer_row (c : Dev nD) : (peer c).val / 2 = 1 - c.val / 2 := by revert c; decide

/-- The signal and both copies are addressed to the peer. -/
theorem signal_dev (c : Dev nD) : (⟨k0_dev1 c, k0_dev1_lt c⟩ : Dev nD) = peer c := Fin.ext (k0_dev1_eq c)
theorem copy0_dev (c : Dev nD) : (⟨k0_dev2 c, k0_dev2_lt c⟩ : Dev nD) = peer c := Fin.ext (k0_dev2_eq c)
theorem copy1_dev (c : Dev nD) : (⟨k0_dev3 c, k0_dev3_lt c⟩ : Dev nD) = peer c := Fin.ext (k0_dev3_eq c)

/-- Trading, as a permutation of the devices. -/
def swap : Dev nD ≃ Dev nD := ⟨peer, peer, peer_peer, peer_peer⟩

/-! ## The buffers and their parts -/

/-- The staged argument, the result being assembled, and the buffer the copies leave from. -/
abbrev xM : Memref sig .tc .vmem S256x512 .bf16 := Memref.whole cc0_stg0_0
abbrev oM : Memref sig .tc .vmem S512x256 .bf16 := Memref.whole cc0_stg1_0
abbrev bM : Memref sig .tc .vmem S256x256 .bf16 := Memref.whole cc0_scratch0

theorem half_inb (k : Fin 2) : ∀ a, (![128 * k.val, 0] : Fin 2 → Nat) a + S128x256.size a ≤ S256x256.size a := by
  revert k; decide

/-- Rows `128 k` to `128 k + 127` of the send buffer. -/
abbrev halfR (k : Fin 2) : Rect S256x256 := Rect.unit (s := S256x256) ![128 * k.val, 0] S128x256.size (half_inb k)
abbrev halfM (k : Fin 2) : Memref sig .tc .vmem S128x256 .bf16 := bM.slice (halfR k) (fun _ => rfl)

/-- The rows of a result that copy `k` from device `d` lands on. -/
abbrev landR (d : Dev nD) (k : Fin 2) : Rect S512x256 :=
  Rect.unit (s := S512x256) (k0_off2 d (BitVec.ofNat 32 (128 * k.val))) S128x256.size (k0_off2_inb d k)
abbrev landM (d : Dev nD) (k : Fin 2) : Memref sig .tc .vmem S128x256 .bf16 := oM.slice (landR d k) (fun _ => rfl)

/-- The rows of its result that device `c` fills from its own argument. -/
abbrev ownR (c : Dev nD) : Rect S512x256 := Rect.unit (s := S512x256) (k0_off5 c) S256x256.size (k0_off5_inb c)

theorem mem_half {k : Fin 2} {i : S256x256.Idx} : i ∈ (halfR k).set ↔ 128 * k.val ≤ (i 0).val ∧ (i 0).val < 128 * k.val + 128 := by
  have h1 : (i 1).val < 256 := (i 1).isLt
  rw [Rect.mem_set_unit, Fin.forall_fin_two]
  exact ⟨fun h => h.1, fun h => ⟨h, Nat.zero_le _, by show (i 1).val < 0 + 256; omega⟩⟩

theorem mem_land {d : Dev nD} {k : Fin 2} {i : S512x256.Idx} :
    i ∈ (landR d k).set ↔ 256 * (d.val / 2) + 128 * k.val ≤ (i 0).val ∧ (i 0).val < 256 * (d.val / 2) + 128 * k.val + 128 := by
  have h1 : (i 1).val < 256 := (i 1).isLt
  rw [Rect.mem_set_unit, Fin.forall_fin_two, k0_off2_eq]
  exact ⟨fun h => h.1, fun h => ⟨h, Nat.zero_le _, by show (i 1).val < 0 + 256; omega⟩⟩

theorem mem_own {c : Dev nD} {i : S512x256.Idx} :
    i ∈ (ownR c).set ↔ 256 * (c.val / 2) ≤ (i 0).val ∧ (i 0).val < 256 * (c.val / 2) + 256 := by
  have h1 : (i 1).val < 256 := (i 1).isLt
  rw [Rect.mem_set_unit, Fin.forall_fin_two, k0_off5_eq]
  exact ⟨fun h => h.1, fun h => ⟨h, Nat.zero_le _, by show (i 1).val < 0 + 256; omega⟩⟩

/-- The two halves share no element, -/
theorem halves_disjoint : Disjoint (halfR 0).set (halfR 1).set :=
  Finset.disjoint_left.mpr fun _ h0 h1 => by
    have a := (mem_half.mp h0).2; have b := (mem_half.mp h1).1
    simp only [Fin.val_zero, Fin.val_one] at a b; omega

/-- and make up the send buffer. -/
theorem halves_cover : (halfR 0).set ∪ (halfR 1).set = Finset.univ := by
  ext i
  have h0 : (i 0).val < 256 := (i 0).isLt
  rw [Finset.mem_union, mem_half, mem_half]
  simp only [Fin.val_zero, Fin.val_one, Finset.mem_univ, iff_true]
  omega

/-- The rows two copies of one device land on are apart, -/
theorem lands_disjoint (d : Dev nD) : Disjoint (landR d 0).set (landR d 1).set :=
  Finset.disjoint_left.mpr fun _ h0 h1 => by
    have a := (mem_land.mp h0).2; have b := (mem_land.mp h1).1
    simp only [Fin.val_zero, Fin.val_one] at a b; omega

/-- and apart from the rows the receiver fills itself; -/
theorem own_disjoint (c : Dev nD) : Disjoint (ownR c).set ((landR (peer c) 0).set ∪ (landR (peer c) 1).set) :=
  Finset.disjoint_left.mpr fun i h h' => by
    have hc : c.val < 4 := c.isLt
    have a := mem_own.mp h
    rw [Finset.mem_union, mem_land, mem_land, peer_row] at h'
    simp only [Fin.val_zero, Fin.val_one] at h'
    omega

/-- together the three make up the result. -/
theorem result_cover (c : Dev nD) : (ownR c).set ∪ ((landR (peer c) 0).set ∪ (landR (peer c) 1).set) = Finset.univ := by
  ext i
  have h0 : (i 0).val < 512 := (i 0).isLt
  have hc : c.val < 4 := c.isLt
  rw [Finset.mem_union, Finset.mem_union, mem_own, mem_land, mem_land, peer_row]
  simp only [Fin.val_zero, Fin.val_one, Finset.mem_univ, iff_true]
  omega

/-! ## The array every device ends with -/

/-- What the result of a device in row `a`, column `b` holds, the devices' arguments being `X`: its row `r` comes from the
    device of row `r / 256` in the same column, out of the columns `256 a` onwards. -/
def gather {α : Type} (X : Dev nD → S256x512.Idx → α) (c : Dev nD) : S512x256.Idx → α := fun i =>
  X ⟨2 * ((i 0).val / 256) + c.val % 2, by have h : (i 0).val < 512 := (i 0).isLt; show _ < 4; omega⟩
    (ValueIdx.ix2 ⟨(i 0).val % 256, Nat.mod_lt _ (by decide)⟩
      ⟨256 * (c.val / 2) + (i 1).val, by have h : (i 1).val < 256 := (i 1).isLt; have hc : c.val < 4 := c.isLt; omega⟩)

/-- An entry of it, by the device and the entry it came from. -/
theorem gather_entry {α : Type} (X : Dev nD → S256x512.Idx → α) {c d : Dev nD} {i : S512x256.Idx} {j : S256x512.Idx}
    (hd : 2 * ((i 0).val / 256) + c.val % 2 = d.val) (h0 : (i 0).val % 256 = (j 0).val)
    (h1 : 256 * (c.val / 2) + (i 1).val = (j 1).val) : gather X c i = X d j := by
  unfold gather
  refine congr (congrArg X (Fin.ext hd)) ?_
  rw [ValueIdx.eq_ix2 j]
  exact congr (congrArg ValueIdx.ix2 (Fin.ext h0)) (Fin.ext h1)

variable (X : Dev nD → (cc0_stg0_0 : Ref sig .tc).ty.Contents (Elt F))

/-- Where entry `x` of what copy `k` of device `d` carries lands. -/
theorem land_row (d : Dev nD) (k : Fin 2) (x : S128x256.Idx) :
    ((landR d k).emb x 0).val = 256 * (d.val / 2) + 128 * k.val + (x 0).val := by
  show k0_off2 d (BitVec.ofNat 32 (128 * k.val)) 0 + 1 * (x 0).val = _
  rw [k0_off2_eq, Nat.one_mul]; rfl
theorem land_col (d : Dev nD) (k : Fin 2) (x : S128x256.Idx) : ((landR d k).emb x 1).val = (x 1).val := by
  show k0_off2 d (BitVec.ofNat 32 (128 * k.val)) 1 + 1 * (x 1).val = _
  rw [k0_off2_eq, Nat.one_mul]; exact Nat.zero_add _

/-- Rows `128 k` to `128 k + 127` of a device's argument, in the columns its peer is to have, are what the peer's result
    holds where copy `k` lands. -/
theorem read_sent (c : Dev nD) (k : Fin 2) (off : Fin 2 → Nat) (inb : ∀ a, off a + S128x256.size a ≤ S256x512.size a)
    (hoff : off = ![128 * k.val, 256 - 256 * (c.val / 2)]) (x : S128x256.Idx) :
    xM.view.readAt (Elt F) (Rect.unit (s := S256x512) off S128x256.size inb).toLoadRect (X c) x = gather X (peer c) ((landR c k).emb x) := by
  subst hoff
  have hc : c.val < 4 := c.isLt
  have hk : k.val < 2 := k.isLt
  have hx : (x 0).val < 128 := (x 0).isLt
  refine (gather_entry X ?_ ?_ ?_).symm
  · rw [land_row, show (peer c).val = c.val % 2 + 2 - 2 * (c.val / 2) from rfl]; omega
  · rw [land_row]; show _ = 128 * k.val + 1 * (x 0).val; omega
  · rw [land_col, peer_row]; show _ = 256 - 256 * (c.val / 2) + 1 * (x 1).val; omega

/-- So is the vector stored to the first half of the send buffer, -/
theorem sent0 (c : Dev nD) (x : S128x256.Idx) :
    k0_pay1 (xM.view.readAt (Elt F) (Rect.unit (s := S256x512) (k0_off1 c) S128x256.size (k0_off1_inb c)).toLoadRect (X c)) x
      = gather X (peer c) ((landR c 0).emb x) := by
  unfold k0_pay1; rw [shapeCast_self, shapeCast_self]; exact read_sent X c 0 _ _ (k0_off1_eq c) x

/-- and the one stored to the second. -/
theorem sent1 (c : Dev nD) (x : S128x256.Idx) :
    k0_pay2 (xM.view.readAt (Elt F) (Rect.unit (s := S256x512) (k0_off3 c) S128x256.size (k0_off3_inb c)).toLoadRect (X c)) x
      = gather X (peer c) ((landR c 1).emb x) := by
  unfold k0_pay2; rw [shapeCast_self, shapeCast_self]; exact read_sent X c 1 _ _ (k0_off3_eq c) x

/-- The vector a device stores to its own rows of the result is what they are to hold. -/
theorem kept (c : Dev nD) (x : S256x256.Idx) :
    k0_pay3 (xM.view.readAt (Elt F) (Rect.unit (s := S256x512) (k0_off4 c) S256x256.size (k0_off4_inb c)).toLoadRect (X c)) x
      = gather X c ((ownR c).emb x) := by
  have hc : c.val < 4 := c.isLt
  have hx : (x 0).val < 256 := (x 0).isLt
  have e0 : ((ownR c).emb x 0).val = 256 * (c.val / 2) + (x 0).val := by
    show k0_off5 c 0 + 1 * (x 0).val = _
    rw [k0_off5_eq, Nat.one_mul]; rfl
  have e1 : ((ownR c).emb x 1).val = (x 1).val := by
    show k0_off5 c 1 + 1 * (x 1).val = _
    rw [k0_off5_eq, Nat.one_mul]; exact Nat.zero_add _
  unfold k0_pay3; rw [shapeCast_self]
  refine (gather_entry X ?_ ?_ ?_).symm
  · rw [e0]; omega
  · rw [e0]; show _ = k0_off4 c 0 + 1 * (x 0).val
    rw [k0_off4_eq]; show _ = 0 + 1 * (x 0).val; omega
  · rw [e1]; show _ = k0_off4 c 1 + 1 * (x 1).val
    rw [k0_off4_eq]; show _ = 256 * (c.val / 2) + 1 * (x 1).val; omega

/-! ## Contents after a copy or a store -/

/-- A copy of half `k`, when that half holds what the peer is to have, leaves the rows it lands on as they are to be. -/
theorem landed (c : Dev nD) (k : Fin 2) (fs : (cc0_scratch0 : Ref sig .tc).ty.Contents (Elt F)) (fd : (cc0_stg1_0 : Ref sig .tc).ty.Contents (Elt F))
    (h : ∀ x, (halfM k).view.read (Elt F) fs x = gather X (peer c) ((landR c k).emb x)) :
    ∀ i ∈ (landM c k).view.set, (landM c k).view.write (Elt F) fd ((halfM k).view.read (Elt F) fs) Finset.univ i = gather X (peer c) i := by
  intro i hi
  obtain ⟨x, -, rfl⟩ := Finset.mem_map.mp hi
  rw [View.write_emb_of_mem (v := (landM c k).view) fd _ (Finset.mem_univ x)]
  exact h x

/-- The store to the device's own rows leaves them as they are to be. -/
theorem stored (c : Dev nD) (f : (cc0_stg1_0 : Ref sig .tc).ty.Contents (Elt F)) :
    ∀ i ∈ (oM.access (ownR c)).set, (oM.access (ownR c)).write (Elt F) f
        (k0_pay3 (xM.view.readAt (Elt F) (Rect.unit (s := S256x512) (k0_off4 c) S256x256.size (k0_off4_inb c)).toLoadRect (X c))) Finset.univ i
      = gather X c i := by
  intro i hi
  obtain ⟨x, -, rfl⟩ := Finset.mem_map.mp hi
  rw [View.write_emb_of_mem (v := oM.access (ownR c)) f _ (Finset.mem_univ x)]
  exact kept X c x

end Cert.ExchangeProof

end
-- ==== Proof.Protocol.lean ====
/-
  The exchange's protocol. Every device has five semaphores in play: the barrier semaphore, on which its peer says that
  it has begun; two send semaphores, which say that a half of the send buffer has been read; two receive semaphores,
  which say that a copy has landed. Each is raised once and waited for once, and each raise carries memory with it: the
  peer's signal hands over the rows of the peer's result that the two copies will write, a send semaphore hands its half
  of the send buffer back, a receive semaphore hands back the rows written, holding what they are to hold.
-/
module

public import proofs.«01_k».proof.Proof.Pieces

@[expose] public section

noncomputable section

namespace Cert.ExchangeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state, memory, cells -/

/-- The exchange's ghost state beside the pipeline's own. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The machine at launch: any memory, every counter zero, any generator registers. -/
def s₀ : MemSt nD τ sig (Elt F) := ⟨m, fun _ => 0, ρ⟩

/-- The block of the argument staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s result is to hold. -/
def outAt (c : Dev nD) : (cc0_stg1_0 : Ref sig .tc).ty.Contents (Elt F) := gather (xstg m ρ) c

theorem sem_inb (k : Fin 2) : ∀ a, (![k.val] : Fin 1 → Nat) a + S1.size a ≤ S2.size a := by revert k; decide

/-- The barrier semaphore, the send semaphores and the receive semaphores. -/
abbrev barS : Sem sig := (SemArray.scalar (sig.barrier 0 rfl) : Sems sig S_).sem
abbrev sndS (k : Fin 2) : DmaSem sig := ⟨2 + k.val, by have := k.isLt; show _ < 6; omega⟩
abbrev rcvS (k : Fin 2) : DmaSem sig := ⟨4 + k.val, by have := k.isLt; show _ < 6; omega⟩

theorem sndS_0 : ((cc0_scratch1.slice (Rect.unit (s := S2) ![0] ![1] inb_S2_S1_0)).squeeze S_ squeezes_S1_S_).sem = sndS 0 := rfl
theorem sndS_1 : ((cc0_scratch1.slice (Rect.unit (s := S2) ![1] ![1] inb_S2_S1_1)).squeeze S_ squeezes_S1_S_).sem = sndS 1 := rfl
theorem rcvS_0 : ((cc0_scratch2.slice (Rect.unit (s := S2) ![0] ![1] inb_S2_S1_0)).squeeze S_ squeezes_S1_S_).sem = rcvS 0 := rfl
theorem rcvS_1 : ((cc0_scratch2.slice (Rect.unit (s := S2) ![1] ![1] inb_S2_S1_1)).squeeze S_ squeezes_S1_S_).sem = rcvS 1 := rfl

/-- A device's four own semaphores, and with its barrier semaphore all five. -/
abbrev osem : Fin 4 → SemLoc sig := fun | 0 => .dma (sndS 0) | 1 => .dma (sndS 1) | 2 => .dma (rcvS 0) | 3 => .dma (rcvS 1)
abbrev csem : Fin 5 → SemLoc sig := fun
  | 0 => .reg barS | 1 => .dma (sndS 0) | 2 => .dma (sndS 1) | 3 => .dma (rcvS 0) | 4 => .dma (rcvS 1)

abbrev barCell (c : Dev nD) : GSem nD τ sig := ((c : Thread nD τ), .reg barS)
abbrev sndCell (c : Dev nD) (k : Fin 2) : GSem nD τ sig := ((c : Thread nD τ), .dma (sndS k))
abbrev rcvCell (c : Dev nD) (k : Fin 2) : GSem nD τ sig := ((c : Thread nD τ), .dma (rcvS k))
abbrev xcell (cj : Dev nD × Fin 5) : GSem nD τ sig := ((cj.1 : Thread nD τ), csem cj.2)

/-- What one copy credits. -/
abbrev N : ℕ := (halfM 0).view.dmaCredit
theorem N_pos : 0 < N := View.dmaCredit_pos _ (by decide)

/-! ## Memory held -/

/-- Half `k` of device `c`'s send buffer, at `f`. -/
def halfPts (c : Dev nD) (k : Fin 2) (f : Buf (Elt F) ((halfM k).view.loc (c : Thread nD τ))) : sProp 𝕄 :=
  (halfM k).view.loc (c : Thread nD τ) ↦[(halfM k).view.set]{fullShare} f
/-- The rows of device `c`'s result that copy `k` from device `d` lands on, at `f`. -/
def landPts (c d : Dev nD) (k : Fin 2) (f : Buf (Elt F) ((landM d k).view.loc (c : Thread nD τ))) : sProp 𝕄 :=
  (landM d k).view.loc (c : Thread nD τ) ↦[(landM d k).view.set]{fullShare} f
/-- The rows of device `c`'s result that it fills itself, at `f`. -/
def ownPts (c : Dev nD) (f : Buf (Elt F) ((oM.access (ownR c)).loc (c : Thread nD τ))) : sProp 𝕄 :=
  (oM.access (ownR c)).loc (c : Thread nD τ) ↦[(oM.access (ownR c)).set]{fullShare} f

instance halfPts_storable (c : Dev nD) (k : Fin 2) (f) : BI.Storable (upEmb : UEmb _ 𝕄) (halfPts (F := F) c k f) := by
  unfold halfPts; infer_instance
instance landPts_storable (c d : Dev nD) (k : Fin 2) (f) : BI.Storable (upEmb : UEmb _ 𝕄) (landPts (F := F) c d k f) := by
  unfold landPts; infer_instance

/-- The whole result is the device's own rows and the two it receives. -/
theorem result_split (c : Dev nD) (f : Buf (Elt F) ((c : Thread nD τ).loc cc0_stg1_0)) :
    (((c : Thread nD τ).loc cc0_stg1_0) ↦{fullShare} f : sProp 𝕄)
      = iprop(ownPts c f ∗ landPts c (peer c) 0 f ∗ landPts c (peer c) 1 f) := by
  have h1 := pointsTo_union (Ix := Unit) (Name := ℕ) (U := UU) (Lvl := ℕ) (ℓ := (c : Thread nD τ).loc cc0_stg1_0)
    (q := fullShare) (f := f) (own_disjoint c)
  have h2 := pointsTo_union (Ix := Unit) (Name := ℕ) (U := UU) (Lvl := ℕ) (ℓ := (c : Thread nD τ).loc cc0_stg1_0)
    (q := fullShare) (f := f) (lands_disjoint (peer c))
  unfold ownPts landPts
  simp only [Memref.access, Memref.view_slice, Memref.view_whole, View.set_slice_whole]
  rw [← BI.equiv_iff.mp ⟨h2.1, h2.2⟩, ← BI.equiv_iff.mp ⟨h1.1, h1.2⟩, result_cover]

/-- The whole send buffer is its two halves; -/
theorem sendbuf_split (c : Dev nD) (f : Buf (Elt F) ((c : Thread nD τ).loc cc0_scratch0)) :
    (((c : Thread nD τ).loc cc0_scratch0) ↦{fullShare} f : sProp 𝕄) = iprop(halfPts c 0 f ∗ halfPts c 1 f) := by
  have h := pointsTo_union (Ix := Unit) (Name := ℕ) (U := UU) (Lvl := ℕ) (ℓ := (c : Thread nD τ).loc cc0_scratch0)
    (q := fullShare) (f := f) halves_disjoint
  unfold halfPts
  simp only [Memref.view_slice, Memref.view_whole, View.set_slice_whole]
  rw [← BI.equiv_iff.mp ⟨h.1, h.2⟩, halves_cover]

/-- two halves held at any contents make up the whole at some. -/
theorem sendbuf_join (c : Dev nD) (f g : Buf (Elt F) ((c : Thread nD τ).loc cc0_scratch0)) :
    iprop(halfPts c 0 f ∗ halfPts c 1 g) ⊢ (iprop(∃ h : Buf (Elt F) ((c : Thread nD τ).loc cc0_scratch0), ((c : Thread nD τ).loc cc0_scratch0) ↦{fullShare} h) : sProp 𝕄) := by
  unfold halfPts
  simp only [Memref.view_slice, Memref.view_whole, View.set_slice_whole]
  iintro H
  ihave H' := (pointsTo_join (ℓ := (c : Thread nD τ).loc cc0_scratch0) (q := fullShare) (f := f) (g := g) halves_disjoint) $$ H
  iexists _
  rw [halves_cover]
  iexact H'

/-! ## The schedule -/

/-- What raising semaphore `s` of device `c` hands to `c`. -/
def carried (c : Dev nD) : SemLoc sig → sProp 𝕄
  | .reg _ => iprop((∃ f, landPts (peer c) c 0 f) ∗ ∃ f, landPts (peer c) c 1 f)
  | .dma ⟨2, _⟩ => iprop(∃ f, halfPts c 0 f)
  | .dma ⟨3, _⟩ => iprop(∃ f, halfPts c 1 f)
  | .dma ⟨4, _⟩ => landPts c (peer c) 0 (outAt m ρ c)
  | .dma ⟨5, _⟩ => landPts c (peer c) 1 (outAt m ρ c)
  | .dma _ => iprop(emp)

/-- One round of one duty on every cell: a unit on a barrier semaphore, one copy's credit on the others. -/
def plan : Rounds.Schedule (GSem nD τ sig) Unit 𝕄 where
  duties _ r := if r = 0 then {()} else ∅
  unitless _ := False
  amount g _ _ := match g.2 with | .reg _ => 1 | .dma _ => N
  payload g _ _ := carried m ρ g.1.1 g.2
  amount_pos g _ _ _ := by
    rcases g with ⟨t, s⟩
    cases s with
    | reg _ => exact Nat.one_pos
    | dma _ => exact N_pos

instance carried_storable (c : Dev nD) (s : SemLoc sig) : BI.Storable (upEmb : UEmb _ 𝕄) (carried (F := F) m ρ c s) := by
  unfold carried; split <;> infer_instance
instance plan_storable (g : GSem nD τ sig) (r : ℕ) (d : Unit) : BI.Storable (upEmb : UEmb _ 𝕄) ((plan (F := F) m ρ).payload g r d) :=
  carried_storable m ρ g.1.1 g.2

theorem duty_mem (g : GSem nD τ sig) : () ∈ (plan (F := F) m ρ).duties g 0 := Finset.mem_singleton_self _
theorem duties_later (g : GSem nD τ sig) : ∀ r, 1 ≤ r → (plan (F := F) m ρ).duties g r = ∅ := fun r hr => if_neg (by omega)
theorem expect_eq (g : GSem nD τ sig) : (plan (F := F) m ρ).expect g 0 = (plan (F := F) m ρ).amount g 0 () := by
  unfold Schedule.expect Schedule.amountOf
  exact Finset.sum_singleton _ _
/-- What a wait for the whole round gets. -/
theorem rest_eq (g : GSem nD τ sig) :
    bigSep ((plan (F := F) m ρ).duties g 0 \ ∅) (fun d => (plan (F := F) m ρ).payload g 0 d) = carried m ρ g.1.1 g.2 := by
  rw [Finset.sdiff_empty]; exact bigSep_singleton

/-! ## What is owed at launch, and the order of waiting -/

/-- The credit of copy `k` a device owes its peer. -/
abbrev copyDue (c : Dev nD) (k : Fin 2) : CellTallies nD τ sig Unit := tallyAt (rcvCell (peer c) k) () N
/-- What is left of a device's debts once it has signalled: both copies. -/
def O₁ (c : Dev nD) : CellTallies nD τ sig Unit := copyDue c 1 + copyDue c 0
/-- A device owes its peer both copies and the signal. -/
def O₀ (c : Dev nD) : CellTallies nD τ sig Unit := O₁ c + tallyAt (barCell (peer c)) () 1

def L (g : GSem nD τ sig) : Finset Unit := if g.1.2 = .tc then {()} else ∅
/-- A barrier semaphore is waited for before a receive semaphore, any other before both. -/
def lv (g : GSem nD τ sig) (_ : Unit) : ℕ := match g.2 with | .reg _ => 1 | .dma q => if 4 ≤ q.val then 2 else 0

theorem L_of_ne (g : GSem nD τ sig) (h : g.1.2 ≠ .tc) : L g = ∅ := if_neg h
theorem L_tc (c : Dev nD) (s : SemLoc sig) : L ((c : Thread nD τ), s) = {()} := if_pos rfl

theorem tally_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ k, g = rcvCell (peer c) k := by
  unfold O₁ at h
  rw [Pi.add_apply, Finsupp.add_apply] at h
  rcases Nat.add_pos_iff_pos_or_pos.mp h with h | h
  · exact ⟨1, tally_pos h⟩
  · exact ⟨0, tally_pos h⟩

theorem O₀_pos {c : Dev nD} {g : GSem nD τ sig} {u : Unit} (h : 0 < O₀ c g u) :
    (∃ k, g = rcvCell (peer c) k) ∨ g = barCell (peer c) := by
  unfold O₀ at h
  rw [Pi.add_apply, Finsupp.add_apply] at h
  rcases Nat.add_pos_iff_pos_or_pos.mp h with h | h
  · exact .inl (O₁_pos h)
  · exact .inr (tally_pos h)

theorem lv_rcv (c : Dev nD) (k : Fin 2) : lv (rcvCell c k) () = 2 := if_pos (Nat.le_add_right 4 k.val)

/-- A wait on a semaphore below 4 is allowed whatever is owed at launch, -/
theorem mayWait_low (c : Dev nD) (q : DmaSem sig) (hq : q.val < 4) :
    (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by rcases O₀_pos hg with ⟨k, rfl⟩ | rfl <;> (rw [L_tc]; exact Finset.mem_singleton_self _))
    (fun p hp => by rw [Finset.mem_singleton.mp hp]; show (if 4 ≤ q.val then 2 else 0) ≤ 0; rw [if_neg (by omega)])
    (fun g u hg => by
      rcases O₀_pos hg with ⟨k, rfl⟩ | rfl
      · cases u; rw [lv_rcv]; decide
      · show 0 < 1; decide)

/-- and the wait for the peer's signal while both copies are owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; rw [L_tc]; exact Finset.mem_singleton_self _)
    (fun p hp => by rw [Finset.mem_singleton.mp hp]; exact Nat.le_refl 1)
    (fun g u hg => by obtain ⟨k, rfl⟩ := O₁_pos hg; cases u; rw [lv_rcv]; decide)

end Cert.ExchangeProof

end
-- ==== Proof.Body.lean ====
/-
  One device's run of the kernel: from its staged argument, its result's staging buffer, its send buffer and its share of
  the protocol's ghost state, to the result's staging buffer holding what it is to hold, with every semaphore of its own
  back at zero.
-/
module

public import proofs.«01_k».proof.Proof.Protocol

@[expose] public section

noncomputable section

namespace Cert.ExchangeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device starts with and ends with -/

/-- The cells' invariants device `c` opens, under the names `K`: those of its own five cells, and of the three of its
    peer's that it raises. -/
def invs (K : Dev nD × Fin 5 → ℕ) (c : Dev nD) : sProp 𝕄 :=
  iprop(cellInv EX (plan m ρ) (K (c, 0)) (barCell c)
    ∗ cellInv EX (plan m ρ) (K (c, 1)) (sndCell c 0) ∗ cellInv EX (plan m ρ) (K (c, 2)) (sndCell c 1)
    ∗ cellInv EX (plan m ρ) (K (c, 3)) (rcvCell c 0) ∗ cellInv EX (plan m ρ) (K (c, 4)) (rcvCell c 1)
    ∗ cellInv EX (plan m ρ) (K (peer c, 0)) (barCell (peer c))
    ∗ cellInv EX (plan m ρ) (K (peer c, 3)) (rcvCell (peer c) 0) ∗ cellInv EX (plan m ρ) (K (peer c, 4)) (rcvCell (peer c) 1))

/-- That round 0 of every cell device `c` raises is open. -/
def opened (c : Dev nD) : sProp 𝕄 :=
  iprop(reached EX (barCell (peer c)) 0 ∗ reached EX (sndCell c 0) 0 ∗ reached EX (sndCell c 1) 0
    ∗ reached EX (rcvCell (peer c) 0) 0 ∗ reached EX (rcvCell (peer c) 1) 0)

/-- Device `c`'s place in the rounds of its own five cells, at the start. -/
def places (c : Dev nD) : sProp 𝕄 :=
  iprop(atPos EX (barCell c) 0 ∅ 0 ∗ atPos EX (sndCell c 0) 0 ∅ 0 ∗ atPos EX (sndCell c 1) 0 ∅ 0
    ∗ atPos EX (rcvCell c 0) 0 ∅ 0 ∗ atPos EX (rcvCell c 1) 0 ∅ 0)

/-- The right to each raise device `c` makes. -/
def payToks (c : Dev nD) : sProp 𝕄 :=
  iprop(dutyTok EX (barCell (peer c)) 0 () ∗ dutyTok EX (sndCell c 0) 0 () ∗ dutyTok EX (sndCell c 1) 0 ()
    ∗ dutyTok EX (rcvCell (peer c) 0) 0 () ∗ dutyTok EX (rcvCell (peer c) 1) 0 ())

instance invs_persistent (K : Dev nD × Fin 5 → ℕ) (c : Dev nD) : BI.Persistent (invs m ρ K c) := by unfold invs; infer_instance
instance opened_persistent (c : Dev nD) : BI.Persistent (opened (F := F) c) := by unfold opened; infer_instance

/-- Device `c`'s share of the protocol. -/
def ghost (K : Dev nD × Fin 5 → ℕ) (c : Dev nD) : sProp 𝕄 := iprop(invs m ρ K c ∗ opened c ∗ places c ∗ payToks c)

/-- The credit device `c` waits with: its peer's signal and both of its peer's copies. -/
def credits (c : Dev nD) : sProp 𝕄 :=
  iprop(cred (tallyAt (barCell c) () 1) ∗ cred (tallyAt (rcvCell c 0) () N) ∗ cred (tallyAt (rcvCell c 1) () N))

/-- What the body of device `c` starts from beside its buffers, at some names. -/
def start (c : Dev nD) : sProp 𝕄 := iprop((∃ K, ghost m ρ K c) ∗ credits c ∗ levAts L lv)

/-- A send buffer at some contents. -/
def sendbuf (c : Dev nD) : sProp 𝕄 := iprop(∃ f : Buf (Elt F) ((c : Thread nD τ).loc cc0_scratch0), ((c : Thread nD τ).loc cc0_scratch0) ↦{fullShare} f)

/-- A device's five counters, at zero. -/
def zeros (c : Dev nD) : sProp 𝕄 :=
  iprop(semVal (barCell c) 0 ∗ semVal (sndCell c 0) 0 ∗ semVal (sndCell c 1) 0 ∗ semVal (rcvCell c 0) 0 ∗ semVal (rcvCell c 1) 0)

def Φ₀ (c : Dev nD) : sProp 𝕄 := iprop(start m ρ c ∗ sendbuf c)
def Φ₁ (c : Dev nD) : sProp 𝕄 := iprop(sendbuf (F := F) c ∗ zeros c)

/-- The launch's data on device `c`: the argument array keeps its contents, the result array gets `outAt`; the debts of
    `O₀` before the body are gone after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The steps -/

/-- A wait of device `c` for the whole of round 0 of its cell on `s`: it gets what the raise carried. -/
theorem wp_await (c : Dev nD) (s : SemLoc sig) {κ n : ℕ} (hn : n = (plan (F := F) m ρ).amount ((c : Thread nD τ), s) 0 ())
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ s n Q)
    {α : Type} {Q : α → sProp 𝕄} {k : PUnit → Prog (TpuEff nD τ sig (Elt F) Λ₀ .tc) α}
    (O : CellTallies nD τ sig Unit) (W : Waits sig Unit) :
    iprop(cellInv EX (plan m ρ) κ ((c : Thread nD τ), s) ∗ cred (tallyAt ((c : Thread nD τ), s) () n) ∗ owes (c : Thread nD τ) O W
        ∗ MayWait (c : Thread nD τ) s () O ∗ atPos EX ((c : Thread nD τ), s) 0 ∅ 0)
      ⊢ iprop(((owes (c : Thread nD τ) O (insert (s, ()) W) ∗ atPos EX ((c : Thread nD τ), s) 1 ∅ 0 ∗ carried m ρ c s)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HI, Hc, HO, HM, Hat⟩ Hk
  iapply (Rounds.wp_wait_rest_token 𝒱₀ EX (plan m ρ) (c : Thread nD τ) none (κ := κ) hw (Set.mem_univ _) () (O := O) (W := W)
    (R := 0) (m := 0) (T := ∅) (by rw [Nat.zero_add, expect_eq]; exact hn)) $$ [Hc HO HM Hat]
  · isplitr; · iexact HI
    isplitl [Hc]; · iexact Hc
    isplitl [HO]; · iexact HO
    isplitl [HM] <;> iassumption
  iintro ⟨HO, Hat, -, Hpay⟩
  iapply Hk
  isplitl [HO]; · iexact HO
  isplitl [Hat]; · iexact Hat
  ihave Hp := (Entails.of_eq (rest_eq m ρ ((c : Thread nD τ), s))) $$ Hpay
  iexact Hp

/-- Such a wait for a copy to have left or to have landed, when nothing is owed. -/
theorem wp_await_copy (c : Dev nD) (q : DmaSem sig) {κ : ℕ} {S D : Memref sig .tc .vmem S128x256 .bf16}
    {hS : S.view.WordExact} {hD : D.view.WordExact} (hn : D.view.dmaCredit = N)
    {α : Type} {Q : α → sProp 𝕄} {k : PUnit → Prog (TpuEff nD τ sig (Elt F) Λ₀ .tc) α} (W : Waits sig Unit) :
    iprop(cellInv EX (plan m ρ) κ ((c : Thread nD τ), .dma q) ∗ cred (tallyAt ((c : Thread nD τ), .dma q) () N) ∗ owes (c : Thread nD τ) 0 W
        ∗ atPos EX ((c : Thread nD τ), .dma q) 0 ∅ 0)
      ⊢ iprop(((owes (c : Thread nD τ) 0 (insert (.dma q, ()) W) ∗ atPos EX ((c : Thread nD τ), .dma q) 1 ∅ 0 ∗ carried m ρ c (.dma q))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q S D hS hD) k) Q) := by
  have h := wp_await m ρ c (.dma q) (κ := κ) (n := D.view.dmaCredit) hn (w := .waitDma2 q S D hS hD)
    (wpE_waitDma2_eq 𝒱₀ (c : Thread nD τ) none Set.univ) (k := k) (Q := Q) 0 W
  rw [hn] at h
  iintro ⟨#HI, Hc, HO, Hat⟩ Hk
  iapply h $$ [Hc HO Hat]
  · isplitr; · iexact HI
    isplitl [Hc]; · iexact Hc
    isplitl [HO]; · iexact HO
    isplitr; · rw [MayWait_zero]; iempintro
    iexact Hat
  iexact Hk

/-- What raising a send or a receive semaphore hands over, for either copy. -/
theorem carried_snd (c : Dev nD) (k : Fin 2) : carried m ρ c (.dma (sndS k)) = (iprop(∃ f, halfPts c k f) : sProp 𝕄) :=
  match k with | 0 => rfl | 1 => rfl
theorem carried_rcv (c : Dev nD) (k : Fin 2) : carried m ρ c (.dma (rcvS k)) = (landPts c (peer c) k (outAt m ρ c) : sProp 𝕄) :=
  match k with | 0 => rfl | 1 => rfl

/-- The rows of its result that device `c` gives its peer with the signal. -/
theorem carried_bar (c : Dev nD) (g : (cc0_stg1_0 : Ref sig .tc).ty.Contents (Elt F)) :
    iprop(landPts c (peer c) 0 g ∗ landPts c (peer c) 1 g) ⊢ (plan m ρ).payload (barCell (peer c)) 0 () := by
  show _ ⊢ (carried m ρ (peer c) (.reg barS) : sProp 𝕄)
  unfold carried
  rw [peer_peer]
  iintro ⟨H0, H1⟩
  isplitl [H0]
  · iexists g; iexact H0
  · iexists g; iexact H1

/-- Both copies credit the same, wherever they land. -/
theorem land_credit (d : Dev nD) (k : Fin 2) : (landM d k).view.dmaCredit = N := rfl

/-- Copy `k` of device `c`, started once half `k` holds what the peer is to have. The receive credit is paid off; the
    send semaphore's credit comes. -/
theorem wp_copy (c n : Dev nD) (hn : n = peer c) (k : Fin 2) {κ₁ κ₂ : ℕ}
    {hsc : (landM c k).view.ref.isScScratch = false}
    {hsrc : (halfM k).view.WordExact} {hdst : (landM c k).view.WordExact}
    {hsem : DmaTarget.Typed .vmem (.dma (rcvS k)) (.remote (Dev.tc n : Thread nD τ) (landM c k) (.dma (sndS k)) hsc)}
    {α : Type} {Q : α → sProp 𝕄} {k' : PUnit → Prog (TpuEff nD τ sig (Elt F) Λ₀ .tc) α}
    (fs : (cc0_scratch0 : Ref sig .tc).ty.Contents (Elt F)) (fd : (cc0_stg1_0 : Ref sig .tc).ty.Contents (Elt F))
    (hfs : ∀ x, (halfM k).view.read (Elt F) fs x = outAt m ρ (peer c) ((landR c k).emb x))
    (O : CellTallies nD τ sig Unit) (W : Waits sig Unit) :
    iprop(cellInv EX (plan m ρ) κ₁ (sndCell c k) ∗ cellInv EX (plan m ρ) κ₂ (rcvCell (peer c) k)
        ∗ halfPts c k fs ∗ landPts (peer c) c k fd ∗ owes (c : Thread nD τ) (O + copyDue c k) W
        ∗ dutyTok EX (sndCell c k) 0 () ∗ reached EX (sndCell c k) 0
        ∗ dutyTok EX (rcvCell (peer c) k) 0 () ∗ reached EX (rcvCell (peer c) k) 0)
      ⊢ iprop(((cred (tallyAt (sndCell c k) () N) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (halfM k) (.remote (Dev.tc n : Thread nD τ) (landM c k) (.dma (sndS k)) hsc) (.dma (rcvS k)) hsrc hdst hsem) k') Q) := by
  subst hn
  refine Rounds.wp_send_pointsTo 𝒱₀ EX (plan m ρ) (c : Thread nD τ) none (c' := (peer c : Thread nD τ)) (src := halfM k) (dst := landM c k)
    (sS := .dma (sndS k)) (sem := .dma (rcvS k)) (κ₁ := κ₁) (κ₂ := κ₂) (r₁ := 0) (r₂ := 0) (d₁ := ()) (d₂ := ()) (fs := fs) (fd := fd)
    (duty_mem m ρ _) (duty_mem m ρ _) () () N (land_credit c k) rfl rfl O rfl (W := W) ?_ ?_
  · show (halfPts c k fs : sProp 𝕄) ⊢ carried m ρ c (.dma (sndS k))
    rw [carried_snd]
    iintro H
    iexists fs
    iexact H
  · show (landPts (peer c) c k ((landM c k).view.write (Elt F) fd ((halfM k).view.read (Elt F) fs) Finset.univ) : sProp 𝕄)
      ⊢ carried m ρ (peer c) (.dma (rcvS k))
    rw [carried_rcv, peer_peer]
    exact Entails.of_eq (pointsTo_congr (landed (xstg m ρ) c k fs fd hfs))

/-- A vector loaded from half `k` of the send buffer, whatever it is to be used for. -/
theorem wp_peek (c : Dev nD) (k : Fin 2) {hl : bM.view.LoadsAt (halfR k).toLoadRect}
    {α : Type} {Q : α → sProp 𝕄} {k' : Vec F S128x256 .bf16 → Prog (TpuEff nD τ sig (Elt F) Λ₀ .tc) α} (f : (cc0_scratch0 : Ref sig .tc).ty.Contents (Elt F)) :
    (halfPts c k f : sProp 𝕄)
      ⊢ iprop((∀ v, halfPts c k f -∗ wp frame (wpE (defs₀ (F := F)) 𝒱₀ (c : Thread nD τ) none) Set.univ (k' v) Q)
          -∗ wp frame (wpE (defs₀ (F := F)) 𝒱₀ (c : Thread nD τ) none) Set.univ (.op (.load bM (halfR k).toLoadRect hl) k') Q) := by
  iintro H Hk
  unfold halfPts
  iapply (wp_load_rect 𝒱₀ (c : Thread nD τ) none Set.univ (m := bM) (r := halfR k) (S := (halfM k).view.set) (Finset.Subset.refl _)) $$ H
  iintro H
  iapply Hk
  iexact H

/-- The store of `w` to half `k` of the send buffer: read back, the half is `w`. -/
theorem wp_fill (c : Dev nD) (k : Fin 2) {w : Vec F S128x256 .bf16} {hx : (bM.access (halfR k)).Stores Finset.univ}
    {hm : (Finset.univ : Finset (halfR k).shape.Idx) = Finset.univ ∨ ∀ a, (halfR k).stride a = 1}
    {α : Type} {Q : α → sProp 𝕄} {k' : PUnit → Prog (TpuEff nD τ sig (Elt F) Λ₀ .tc) α} (f : (cc0_scratch0 : Ref sig .tc).ty.Contents (Elt F)) :
    (halfPts c k f : sProp 𝕄)
      ⊢ iprop((∀ g, ⌜(halfM k).view.read (Elt F) g = w⌝ -∗ halfPts c k g -∗ wp frame (wpE (defs₀ (F := F)) 𝒱₀ (c : Thread nD τ) none) Set.univ (k' ⟨⟩) Q)
          -∗ wp frame (wpE (defs₀ (F := F)) 𝒱₀ (c : Thread nD τ) none) Set.univ (.op (.store bM (halfR k) w Finset.univ hx hm) k') Q) := by
  iintro H Hk
  unfold halfPts
  iapply (wp_store 𝒱₀ (c : Thread nD τ) none Set.univ (m := bM) (r := halfR k) (Mk := Finset.univ) (S := (halfM k).view.set) (Finset.Subset.refl _)) $$ H
  iintro H
  iapply Hk $$ [] [H]
  · ipureintro; exact View.read_write_univ (v := (halfM k).view) f w
  · iexact H

/-! ## The whole body -/

/-- Buffer `b` of device `c`, whole, holding `f`. -/
abbrev holds (c : Dev nD) (b : Ref sig .tc) (f : Buf (Elt F) ((c : Thread nD τ).loc b)) : sProp 𝕄 := ((c : Thread nD τ).loc b) ↦{fullShare} f

/-- What a device's body leaves. -/
def after (c : Dev nD) : sProp 𝕄 :=
  iprop(Φ₁ (F := F) c ∗ (∃ W, owes (c : Thread nD τ) 0 W) ∗ holds c cc0_stg0_0 (xstg m ρ c) ∗ holds c cc0_stg1_0 (outAt m ρ c))

set_option maxHeartbeats 1600000 in
/-- The body, one rule for each of its steps in order: from a device's ghost state, credit and debts, its staged argument
    and its two other buffers at any contents. -/
theorem run_body (K : Dev nD × Fin 5 → ℕ) (c : Dev nD) (f : Buf (Elt F) ((c : Thread nD τ).loc cc0_scratch0))
    (g : Buf (Elt F) ((c : Thread nD τ).loc cc0_stg1_0)) (W : Waits sig Unit) (Q : PUnit → sProp 𝕄) :
    iprop(ghost m ρ K c ∗ credits c ∗ levAts L lv ∗ holds c cc0_scratch0 f ∗ owes (c : Thread nD τ) (O₀ c) W
        ∗ holds c cc0_stg0_0 (xstg m ρ c) ∗ holds c cc0_stg1_0 g ∗ (after m ρ c -∗ Q ⟨⟩))
      ⊢ wp frame (wpE (defs₀ (F := F)) 𝒱₀ c none) Set.univ
          (cc0_body xM (Memref.isWhole_whole _) oM (Memref.isWhole_whole _) bM (Memref.isWhole_whole _) cc0_scratch1 cc0_scratch2) Q := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, Prog.bind_assoc, wp_deviceId]
  simp only [sndS_0, sndS_1, rcvS_0, rcvS_1, signal_dev]
  unfold ghost invs opened places payToks credits
  iintro ⟨⟨⟨#HIb, #HIs0, #HIs1, #HIr0, #HIr1, #HIpb, #HIpr0, #HIpr1⟩, ⟨#Hob, #Hos0, #Hos1, #Hor0, #Hor1⟩,
    ⟨Hb, Hs0, Hs1, Hr0, Hr1⟩, Htb, Hts0, Hts1, Htr0, Htr1⟩, ⟨Hcb, Hcr0, Hcr1⟩, #Hlev, Hbuf, HO, Hx, Hout, HQ⟩
  -- the two buffers in the parts the copies move
  ihave Hbuf2 := (Entails.of_eq (sendbuf_split c f)) $$ Hbuf
  icases Hbuf2 with ⟨Hh0, Hh1⟩
  ihave Hout3 := (Entails.of_eq (result_split c g)) $$ Hout
  icases Hout3 with ⟨Hown, Hl0, Hl1⟩
  -- the signal hands the peer the rows of this device's result that the peer writes
  ihave Hgive := (carried_bar m ρ c g) $$ [Hl0 Hl1]
  · isplitl [Hl0] <;> iassumption
  unfold O₀
  iapply (Rounds.wp_signal 𝒱₀ EX (plan m ρ) (c : Thread nD τ) none (dst := (peer c : Thread nD τ)) (κ := K (peer c, 0)) (d := ())
      (duty_mem m ρ _) (by show (1 : ℕ) = _; decide) () (O₁ c) rfl) $$ [HO Htb Hgive]
  · isplitr; · iexact HIpb
    isplitl [HO]; · iexact HO
    isplitl [Htb]; · iexact Htb
    isplitl [Hgive]; · iexact Hgive
    iexact Hob
  iintro HO
  -- the wait for the peer's signal gets the peer's rows
  iapply (wp_await m ρ c (.reg barS) (κ := K (c, 0)) (n := 1) rfl (wpE_semWait_eq 𝒱₀ (c : Thread nD τ) none Set.univ) (O₁ c) W)
    $$ [Hcb HO Hb]
  · isplitr; · iexact HIb
    isplitl [Hcb]; · iexact Hcb
    isplitl [HO]; · iexact HO
    isplitr; · iapply (mayWait_bar c); iexact Hlev
    iexact Hb
  iintro ⟨HO, Hb, Hrows⟩
  unfold carried
  icases Hrows with ⟨⟨%p0, Hp0⟩, %p1, Hp1⟩
  -- the first half, stored and sent
  iapply (wp_load 𝒱₀ (c : Thread nD τ) none Set.univ (m := xM) (Finset.subset_univ _)) $$ Hx; iintro Hx
  iapply (wp_peek c 0 f) $$ Hh0; iintro %v0 Hh0
  iapply (wp_fill c 0 f) $$ Hh0; iintro %f0 %hf0 Hh0
  unfold O₁
  iapply (wp_copy m ρ c _ (copy0_dev c) 0 (κ₁ := K (c, 1)) (κ₂ := K (peer c, 3)) f0 p0
    (fun x => by rw [hf0]; exact sent0 (xstg m ρ) c x) (copyDue c 1) _) $$ [Hh0 Hp0 HO Hts0 Htr0]
  · isplitr; · iexact HIs0
    isplitr; · iexact HIpr0
    isplitl [Hh0]; · iexact Hh0
    isplitl [Hp0]; · iexact Hp0
    isplitl [HO]; · iexact HO
    isplitl [Hts0]; · iexact Hts0
    isplitr; · iexact Hos0
    isplitl [Htr0]; · iexact Htr0
    iexact Hor0
  iintro ⟨Hcs0, HO⟩
  -- the second half likewise
  iapply (wp_load 𝒱₀ (c : Thread nD τ) none Set.univ (m := xM) (Finset.subset_univ _)) $$ Hx; iintro Hx
  iapply (wp_peek c 1 f) $$ Hh1; iintro %v1 Hh1
  iapply (wp_fill c 1 f) $$ Hh1; iintro %f1 %hf1 Hh1
  ihave HO := (Entails.of_eq (congrArg (owes (c : Thread nD τ) · _) (zero_add (copyDue c 1)).symm)) $$ HO
  iapply (wp_copy m ρ c _ (copy1_dev c) 1 (κ₁ := K (c, 2)) (κ₂ := K (peer c, 4)) f1 p1
    (fun x => by rw [hf1]; exact sent1 (xstg m ρ) c x) 0 _) $$ [Hh1 Hp1 HO Hts1 Htr1]
  · isplitr; · iexact HIs1
    isplitr; · iexact HIpr1
    isplitl [Hh1]; · iexact Hh1
    isplitl [Hp1]; · iexact Hp1
    isplitl [HO]; · iexact HO
    isplitl [Hts1]; · iexact Hts1
    isplitr; · iexact Hos1
    isplitl [Htr1]; · iexact Htr1
    iexact Hor1
  iintro ⟨Hcs1, HO⟩
  -- the device's own rows
  iapply (wp_load 𝒱₀ (c : Thread nD τ) none Set.univ (m := xM) (Finset.subset_univ _)) $$ Hx; iintro Hx
  unfold ownPts
  iapply (wp_load_rect 𝒱₀ (c : Thread nD τ) none Set.univ (m := oM) (r := ownR c) (S := (oM.access (ownR c)).set) (Finset.Subset.refl _)) $$ Hown
  iintro Hown
  iapply (wp_store 𝒱₀ (c : Thread nD τ) none Set.univ (m := oM) (r := ownR c) (Mk := Finset.univ) (S := (oM.access (ownR c)).set) (Finset.Subset.refl _)) $$ Hown
  iintro Hown
  ihave Hown := (Entails.of_eq (pointsTo_congr (stored (xstg m ρ) c g))) $$ Hown
  -- the four waits, with nothing owed
  iapply (wp_await_copy m ρ c (sndS 0) (κ := K (c, 1)) (S := landM c 0) (D := halfM 0) rfl _) $$ [Hcs0 HO Hs0]
  · isplitr; · iexact HIs0
    isplitl [Hcs0]; · iexact Hcs0
    isplitl [HO]; · iexact HO
    iexact Hs0
  iintro ⟨HO, Hs0, Hh0⟩
  ihave Hh0 := (Entails.of_eq (carried_snd m ρ c 0)) $$ Hh0
  icases Hh0 with ⟨%e0, Hh0⟩
  iapply (wp_await_copy m ρ c (rcvS 0) (κ := K (c, 3)) (S := halfM 0) (D := landM c 0) (land_credit c 0) _) $$ [Hcr0 HO Hr0]
  · isplitr; · iexact HIr0
    isplitl [Hcr0]; · iexact Hcr0
    isplitl [HO]; · iexact HO
    iexact Hr0
  iintro ⟨HO, Hr0, Hl0⟩
  ihave Hl0 := (Entails.of_eq (carried_rcv m ρ c 0)) $$ Hl0
  iapply (wp_await_copy m ρ c (sndS 1) (κ := K (c, 2)) (S := landM c 1) (D := halfM 1) rfl _) $$ [Hcs1 HO Hs1]
  · isplitr; · iexact HIs1
    isplitl [Hcs1]; · iexact Hcs1
    isplitl [HO]; · iexact HO
    iexact Hs1
  iintro ⟨HO, Hs1, Hh1⟩
  ihave Hh1 := (Entails.of_eq (carried_snd m ρ c 1)) $$ Hh1
  icases Hh1 with ⟨%e1, Hh1⟩
  iapply (wp_await_copy m ρ c (rcvS 1) (κ := K (c, 4)) (S := halfM 1) (D := landM c 1) (land_credit c 1) _) $$ [Hcr1 HO Hr1]
  · isplitr; · iexact HIr1
    isplitl [Hcr1]; · iexact Hcr1
    isplitl [HO]; · iexact HO
    iexact Hr1
  iintro ⟨HO, Hr1, Hl1⟩
  ihave Hl1 := (Entails.of_eq (carried_rcv m ρ c 1)) $$ Hl1
  -- no cell is raised again: its counter is the device's, at zero
  imod (Rounds.cell_close EX (plan m ρ) (Set.mem_univ (K (c, 0))) (fun h => h) (duties_later m ρ (barCell c))) $$ [Hb] with Hb
  · isplitr; · iexact HIb
    iexact Hb
  imod (Rounds.cell_close EX (plan m ρ) (Set.mem_univ (K (c, 1))) (fun h => h) (duties_later m ρ (sndCell c 0))) $$ [Hs0] with Hs0
  · isplitr; · iexact HIs0
    iexact Hs0
  imod (Rounds.cell_close EX (plan m ρ) (Set.mem_univ (K (c, 2))) (fun h => h) (duties_later m ρ (sndCell c 1))) $$ [Hs1] with Hs1
  · isplitr; · iexact HIs1
    iexact Hs1
  imod (Rounds.cell_close EX (plan m ρ) (Set.mem_univ (K (c, 3))) (fun h => h) (duties_later m ρ (rcvCell c 0))) $$ [Hr0] with Hr0
  · isplitr; · iexact HIr0
    iexact Hr0
  imod (Rounds.cell_close EX (plan m ρ) (Set.mem_univ (K (c, 4))) (fun h => h) (duties_later m ρ (rcvCell c 1))) $$ [Hr1] with Hr1
  · isplitr; · iexact HIr1
    iexact Hr1
  -- the buffers whole again
  rw [wp_ret]; imodintro
  iapply HQ
  unfold after Φ₁ sendbuf zeros holds
  isplitl [Hh0 Hh1 Hb Hs0 Hs1 Hr0 Hr1]
  · isplitl [Hh0 Hh1]
    · iapply (sendbuf_join c e0 e1)
      isplitl [Hh0] <;> iassumption
    isplitl [Hb]; · iexact Hb
    isplitl [Hs0]; · iexact Hs0
    isplitl [Hs1]; · iexact Hs1
    isplitl [Hr0] <;> iassumption
  isplitl [HO]; · iexists _; iexact HO
  isplitl [Hx]; · iexact Hx
  iapply (Entails.of_eq (result_split c (outAt m ρ c)).symm)
  isplitl [Hown]; · unfold ownPts outAt; iexact Hown
  isplitl [Hl0] <;> iassumption

end Cert.ExchangeProof

end
-- ==== Proof.Launch.lean ====
/-
  The run of the whole program: the four devices' bodies put together. The protocol's ghost state is made once for all
  twenty cells and dealt out, each device getting the right to raise its peer's barrier and receive semaphores and its own
  send semaphores; and the debts the devices start with are, cell by cell, the credit their peers wait with.
-/
module

public import proofs.«01_k».proof.Proof.Body
public import proofs.«01_k».proof.Proof.Gen.KernelIdeal.Points
public import Idealize.ShloMosaic.Lib.Pipeline.CollectiveSegs

@[expose] public section

noncomputable section

namespace Cert.ExchangeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

/-- A whole buffer owned at `X` is held at `X`. -/
theorem owns_holds (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ holds c b f) := by
  unfold owns
  simp only [Memref.view_whole, View.read_whole, View.set_whole]

set_option maxRecDepth 4000 in
/-- Device `c`'s body takes the launch's data from before its one point to after it. -/
theorem body_obligation (c : Dev nD) : BodyObligation (dats (F := F) m ρ 0 c) (defs₀ (F := F)) 𝒱₀ () Set.univ := fun t => by
  rw [fin_N0 t, bigSep_W0, bigSep_W0]
  simp only [owns_holds]
  show iprop(Φ₀ m ρ c ∗ (dats m ρ 0 c).owesAt () t0_0.castSucc
        ∗ (∃ d, ∃ f : Buf (Elt F) ((c : Thread nD τ).loc cc0_stg0_0), ⌜f = (dats m ρ 0 c).before (0 : Fin 2) t0_0 d⌝ ∗ holds c cc0_stg0_0 f)
        ∗ (∃ d, ∃ f : Buf (Elt F) ((c : Thread nD τ).loc cc0_stg1_0), ⌜f = (dats m ρ 0 c).before (1 : Fin 2) t0_0 d⌝ ∗ holds c cc0_stg1_0 f))
    ⊢ wp frame (wpE (defs₀ (F := F)) 𝒱₀ c none) Set.univ
        (cc0_body xM (Memref.isWhole_whole _) oM (Memref.isWhole_whole _) bM (Memref.isWhole_whole _) cc0_scratch1 cc0_scratch2)
        fun _ => iprop(Φ₁ (F := F) c ∗ (dats m ρ 0 c).owesAt () t0_0.succ
          ∗ (∃ f : Buf (Elt F) ((c : Thread nD τ).loc cc0_stg0_0), ⌜f = xstg m ρ c⌝ ∗ holds c cc0_stg0_0 f)
          ∗ (∃ f : Buf (Elt F) ((c : Thread nD τ).loc cc0_stg1_0), ⌜f = outAt m ρ c⌝ ∗ holds c cc0_stg1_0 f))
  unfold Φ₀ start sendbuf Dat.owesAt Pipeline.owesWithin
  rw [show (dats m ρ 0 c).owed t0_0.castSucc = O₀ c from rfl, show (dats m ρ 0 c).owed t0_0.succ = 0 from rfl]
  iintro ⟨⟨⟨⟨%K, Hg⟩, Hc, Hlev⟩, %f, Hbuf⟩, ⟨%W, -, HO⟩, ⟨%d, %x, %hx, Hx⟩, %d', %g, -, Hout⟩
  have hx' : x = xstg m ρ c := by rw [hx]; unfold Dat.before; rw [if_pos (fetch0_0 t0_0)]; rfl
  subst hx'
  iapply (run_body m ρ K c f g W)
  isplitl [Hg]; · iexact Hg
  isplitl [Hc]; · iexact Hc
  isplitl [Hlev]; · iexact Hlev
  isplitl [Hbuf]; · iexact Hbuf
  isplitl [HO]; · iexact HO
  isplitl [Hx]; · iexact Hx
  isplitl [Hout]; · iexact Hout
  unfold after
  iintro ⟨HΦ, ⟨%W', HO⟩, Hx, Hout⟩
  isplitl [HΦ]; · iexact HΦ
  isplitl [HO]
  · iexists W'; isplitr; · ipureintro; exact fun _ _ => Or.inl trivial
    iexact HO
  isplitl [Hx]
  · iexists _; isplitr; · (ipureintro; rfl)
    iexact Hx
  iexists _; isplitr; · (ipureintro; rfl)
  iexact Hout

/-! ## The twenty cells, and what is dealt of them -/

theorem ownSemFacts : Pipeline.OwnSemFacts cfg0.spec osem := by decide

theorem xcell_injective : Function.Injective (xcell : Dev nD × Fin 5 → GSem nD τ sig) := by
  rintro ⟨c, j⟩ ⟨d, k⟩ h
  have hc : c = d := congrArg (fun g : GSem nD τ sig => g.1.1) h
  have hj : j = k := (by decide : Function.Injective csem) (congrArg Prod.snd h)
  rw [hc, hj]

def cells : Finset (GSem nD τ sig) := Finset.univ.map ⟨xcell, xcell_injective⟩
/-- Every cell's one duty. -/
def cellToks : Finset (GSem nD τ sig × ℕ × Unit) := cells.map ⟨fun g => (g, 0, ()), fun _ _ h => congrArg Prod.fst h⟩

/-- The ghost state at launch: the pipeline's, and the exchange's. -/
def u₀ : UU := (initOf (Pipeline.cells cfgs cellOf_inj) (Pipeline.launchToks cfgs cellOf_inj), initOf cells cellToks)

/-- What nobody but one device has of cell `g`: its place in `g`'s rounds, and the right to raise `g`. -/
def dealt (g : GSem nD τ sig) : sProp 𝕄 := iprop(atPos EX g 0 ∅ 0 ∗ dutyTok EX g 0 ())

/-- What the launch gives device `c` of its own five cells, -/
def G (c : Dev nD) : sProp 𝕄 :=
  bigSep Finset.univ fun j : Fin 5 => iprop(roundState EX (plan m ρ) (xcell (c, j)) 0 ∗ reached EX (xcell (c, j)) 0 ∗ dealt (xcell (c, j)))
/-- and what it starts with once all devices' are dealt. -/
def G' (c : Dev nD) : sProp 𝕄 := iprop(∃ K, ghost m ρ K c)

/-- Something of every cell is something of every device's five cells. -/
theorem over_cells (Φ : GSem nD τ sig → sProp 𝕄) :
    bigSep cells Φ = bigSep Finset.univ fun c : Dev nD => bigSep Finset.univ fun j : Fin 5 => Φ (xcell (c, j)) := by
  unfold cells; rw [bigSep_map, bigSep_univ_prod]; rfl

/-- One for each of five, written out. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- One for each device is one for each device's peer. -/
theorem by_peer (Φ : Dev nD → sProp 𝕄) : bigSep Finset.univ Φ = bigSep Finset.univ fun c => Φ (peer c) := bigSep_univ_equiv swap Φ

/-- The exchange's ghost state at launch is every device's share. -/
theorem fund_cells : BI.own (EX (initOf cells cellToks)) ⊢ (|==> bigSep Finset.univ (G m ρ) : sProp 𝕄) := by
  have hT : bigSep cellToks (fun x => (dutyTok EX x.1 x.2.1 x.2.2 : sProp 𝕄)) = bigSep cells fun g => dutyTok EX g 0 () := by
    unfold cellToks; rw [bigSep_map]; rfl
  have hG : bigSep Finset.univ (G m ρ) = bigSep cells fun g => iprop(roundState EX (plan m ρ) g 0 ∗ reached EX g 0 ∗ dealt g) := by
    rw [over_cells]; rfl
  rw [hG]
  unfold dealt
  simp only [bigSep_sep']
  iintro H
  imod (Rounds.fund EX (plan m ρ) cells cellToks) $$ H with ⟨Hst, Hr, Hat, Htok⟩
  imodintro
  ihave Htok := (Entails.of_eq hT) $$ Htok
  isplitl [Hst]; · iexact Hst
  isplitl [Hr]; · iexact Hr
  isplitl [Hat] <;> iassumption

/-- The counters of a device's five cells at zero: four are the kernel's own, -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (rcvCell c 0) 0 ∗ semVal (rcvCell c 1) 0) := by
  rw [Pipeline.ownSems0_eq_of_list c osem [0, 1, 2, 3] (by decide) (by decide)]; rfl
/-- one is the barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem counters (c : Dev nD) :
    iprop(Pipeline.ownSems0 (Ix := Unit) (Name := ℕ) (U := UU) (Lvl := ℕ) (Val := Elt F) (τ := τ) osem c ∗ unscopedSems0 c)
      ⊢ (bigSep Finset.univ fun j : Fin 5 => semVal (xcell (c, j)) 0 : sProp 𝕄) := by
  rw [ownSems0_eq, unscopedSems0_eq, five]
  iintro ⟨H, Hb⟩
  isplitl [Hb] <;> iassumption

/-- What a cell's owner has once the cell is open. -/
def openCell (g : GSem nD τ sig) : sProp 𝕄 := iprop((∃ κ : ℕ, cellInv EX (plan m ρ) κ g) ∗ reached EX g 0 ∗ dealt g)

/-- A cell opens from its counter at zero. -/
theorem open_cell (g : GSem nD τ sig) :
    iprop(semVal g 0 ∗ roundState EX (plan m ρ) g 0 ∗ reached EX g 0 ∗ dealt g) ⊢ (|={Set.univ}=> openCell m ρ g : sProp 𝕄) := by
  unfold openCell
  iintro ⟨Hv, Hst, Hrest⟩
  imod ((Rounds.body_intro EX (plan m ρ) g).trans inv_alloc) $$ [Hv Hst] with HI
  · isplitl [Hv] <;> iassumption
  imodintro
  isplitl [HI] <;> iassumption

/-- A device opens its five. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> bigSep Finset.univ fun j : Fin 5 => openCell m ρ (xcell (c, j)) := by
  have h : iprop((bigSep Finset.univ fun j : Fin 5 => semVal (xcell (c, j)) 0) ∗ G m ρ c)
      ⊢ (|={Set.univ}=> bigSep Finset.univ fun j : Fin 5 => openCell m ρ (xcell (c, j)) : sProp 𝕄) := by
    unfold G
    rw [← bigSep_sep']
    exact (bigSep_mono fun j _ => open_cell m ρ (xcell (c, j))).trans (bigSep_fupd _ _)
  iintro ⟨Ho, Hu, HG⟩
  ihave Hv := (counters (F := F) c) $$ [Ho Hu]
  · isplitl [Ho] <;> iassumption
  iapply h
  isplitl [Hv] <;> iassumption

/-- What everybody knows of all cells: their invariants, and that round 0 is open. -/
def known (K : Dev nD × Fin 5 → ℕ) : sProp 𝕄 :=
  bigSep Finset.univ fun x : Dev nD × Fin 5 => iprop(cellInv EX (plan m ρ) (K x) (xcell x) ∗ reached EX (xcell x) 0)
instance known_persistent (K : Dev nD × Fin 5 → ℕ) : BI.Persistent (known m ρ K) := by unfold known; infer_instance
theorem known_at (K : Dev nD × Fin 5 → ℕ) (x : Dev nD × Fin 5) :
    known m ρ K ⊢ iprop(cellInv EX (plan m ρ) (K x) (xcell x) ∗ reached EX (xcell x) 0) := bigSep_elim (Finset.mem_univ x)

/-- Device `c`'s start from what everybody knows, its places and its rights. -/
theorem ghost_intro (K : Dev nD × Fin 5 → ℕ) (c : Dev nD) : iprop(known m ρ K ∗ places c ∗ payToks c) ⊢ G' m ρ c := by
  iintro ⟨#H, Hp, Ht⟩
  ihave #Hb := (known_at m ρ K (c, 0)) $$ H
  ihave #Hs0 := (known_at m ρ K (c, 1)) $$ H
  ihave #Hs1 := (known_at m ρ K (c, 2)) $$ H
  ihave #Hr0 := (known_at m ρ K (c, 3)) $$ H
  ihave #Hr1 := (known_at m ρ K (c, 4)) $$ H
  ihave #Hpb := (known_at m ρ K (peer c, 0)) $$ H
  ihave #Hpr0 := (known_at m ρ K (peer c, 3)) $$ H
  ihave #Hpr1 := (known_at m ρ K (peer c, 4)) $$ H
  icases Hb with ⟨#Ib, -⟩
  icases Hs0 with ⟨#Is0, #Os0⟩
  icases Hs1 with ⟨#Is1, #Os1⟩
  icases Hr0 with ⟨#Ir0, -⟩
  icases Hr1 with ⟨#Ir1, -⟩
  icases Hpb with ⟨#Ipb, #Opb⟩
  icases Hpr0 with ⟨#Ipr0, #Opr0⟩
  icases Hpr1 with ⟨#Ipr1, #Opr1⟩
  unfold G' ghost invs opened
  iexists K
  isplitr
  · isplitr; · iexact Ib
    isplitr; · iexact Is0
    isplitr; · iexact Is1
    isplitr; · iexact Ir0
    isplitr; · iexact Ir1
    isplitr; · iexact Ipb
    isplitr; · iexact Ipr0
    iexact Ipr1
  isplitr
  · isplitr; · iexact Opb
    isplitr; · iexact Os0
    isplitr; · iexact Os1
    isplitr; · iexact Opr0
    iexact Opr1
  isplitl [Hp] <;> iassumption

/-- Every device's places stay with it; the rights to raise its barrier and receive semaphores go to its peer. -/
theorem deal : (bigSep Finset.univ fun c : Dev nD => bigSep Finset.univ fun j : Fin 5 => (dealt (xcell (c, j)) : sProp 𝕄))
    ⊢ bigSep Finset.univ fun c : Dev nD => iprop(places c ∗ payToks c) := by
  unfold dealt places payToks
  simp only [five, bigSep_sep']
  rw [by_peer fun c : Dev nD => (dutyTok EX (barCell c) 0 () : sProp 𝕄), by_peer fun c : Dev nD => (dutyTok EX (rcvCell c 0) 0 () : sProp 𝕄),
    by_peer fun c : Dev nD => (dutyTok EX (rcvCell c 1) 0 () : sProp 𝕄)]

/-- All cells open make every device's start. -/
theorem share : (bigSep Finset.univ fun c : Dev nD => bigSep Finset.univ fun j : Fin 5 => openCell m ρ (xcell (c, j)) : sProp 𝕄)
    ⊢ bigSep Finset.univ (G' m ρ) := by
  unfold openCell
  rw [← bigSep_univ_prod (fun x : Dev nD × Fin 5 => iprop((∃ κ : ℕ, cellInv EX (plan m ρ) κ (xcell x)) ∗ reached EX (xcell x) 0 ∗ dealt (xcell x))),
    bigSep_sep', bigSep_sep', bigSep_univ_prod (fun x : Dev nD × Fin 5 => (dealt (xcell x) : sProp 𝕄))]
  iintro ⟨HI, #HR, Hd⟩
  ihave HK := (BI.bigSep_exists_pi Finset.univ (fun (x : Dev nD × Fin 5) (κ : ℕ) => (cellInv EX (plan m ρ) κ (xcell x) : sProp 𝕄))) $$ HI
  icases HK with ⟨%K, #HI⟩
  ihave Hd := (deal (F := F)) $$ Hd
  have hstep : iprop(known m ρ K ∗ bigSep Finset.univ fun c : Dev nD => iprop(places c ∗ payToks c)) ⊢ bigSep Finset.univ (G' m ρ) :=
    (sep_mono_left (BI.bigSep_of_persistent Finset.univ (known m ρ K))).trans (by rw [← bigSep_sep']; exact bigSep_mono fun c _ => ghost_intro m ρ K c)
  iapply hstep
  isplitr
  · unfold known
    rw [bigSep_sep']
    isplitr; · iexact HI
    iexact HR
  iexact Hd

/-- So all devices' counters at zero and launch ghost state make every device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (share m ρ))

/-! ## The credit a device starts with -/

/-- What device `c` is owed on its cell on `s`. -/
def due (s : SemLoc sig) : ℕ := (if s = .dma (rcvS 1) then N else 0) + (if s = .dma (rcvS 0) then N else 0) + (if s = .reg barS then 1 else 0)

/-- A debt to the peer of `d`, read at a cell of `c`. -/
theorem debt_at (d c : Dev nD) (s s' : SemLoc sig) (n : ℕ) :
    tallyAt (((peer d : Thread nD τ), s) : GSem nD τ sig) () n ((c : Thread nD τ), s') () = if d = peer c then (if s' = s then n else 0) else 0 := by
  rw [tallyAt_apply]
  by_cases hd : d = peer c
  · subst hd
    rw [peer_peer, if_pos rfl]
    by_cases hs : s' = s
    · subst hs; rw [if_pos ⟨rfl, rfl⟩, if_pos rfl]
    · rw [if_neg hs, if_neg fun h => hs (congrArg Prod.snd h.1)]
  · rw [if_neg hd, if_neg fun h => hd (peer_eq_iff.mp (congrArg (fun g : GSem nD τ sig => g.1.1) h.1).symm)]

/-- Only its peer owes a device anything, and that is `due`. -/
theorem owed_at (d c : Dev nD) (s : SemLoc sig) : O₀ d ((c : Thread nD τ), s) () = if d = peer c then due s else 0 := by
  unfold O₀ O₁ due
  rw [Pi.add_apply, Finsupp.add_apply, Pi.add_apply, Finsupp.add_apply, debt_at, debt_at, debt_at]
  by_cases hd : d = peer c
  · simp only [if_pos hd]
  · simp only [if_neg hd]

theorem launch_at (c : Dev nD) (s : SemLoc sig) :
    tallyOn (((c : Thread nD τ), s) : GSem nD τ sig) (launchCredit (Pipeline.owing O₀) 0 ((c : Thread nD τ), s)) = (tallyAt ((c : Thread nD τ), s) () (due s) : CellTallies nD τ sig Unit) := by
  unfold tallyAt
  refine congrArg _ (Finsupp.ext fun u => ?_)
  cases u
  rw [Pipeline.launchCredit_owing, Finsupp.single_eq_same, Finset.sum_congr rfl fun d _ => owed_at d c s,
    Finset.sum_ite_eq' Finset.univ (peer c) fun _ => due s, if_pos (Finset.mem_univ _)]

theorem due_bar : due (.reg barS) = 1 := by unfold due; rw [if_neg (by decide), if_neg (by decide), if_pos rfl]
theorem due_rcv0 : due (.dma (rcvS 0)) = N := by unfold due; rw [if_neg (by decide), if_pos rfl, if_neg (by decide), Nat.zero_add, Nat.add_zero]
theorem due_rcv1 : due (.dma (rcvS 1)) = N := by unfold due; rw [if_pos rfl, if_neg (by decide), if_neg (by decide), Nat.add_zero]

theorem launch_credits (c : Dev nD) : (Pipeline.launchCred O₀ c : sProp 𝕄) ⊢ credits c := by
  have h : (Pipeline.launchCred O₀ c : sProp 𝕄)
      = iprop(cred (tallyAt (barCell c) () (due (.reg barS))) ∗ cred (tallyAt (rcvCell c 0) () (due (.dma (rcvS 0))))
          ∗ cred (tallyAt (rcvCell c 1) () (due (.dma (rcvS 1))))
          ∗ bigSep (((Finset.univ.erase (SemLoc.reg barS)).erase (SemLoc.dma (rcvS 0))).erase (SemLoc.dma (rcvS 1)))
              fun s => cred (tallyAt ((c : Thread nD τ), s) () (due s))) := by
    unfold Pipeline.launchCred
    simp only [launch_at]
    rw [bigSep_univ_at _ (SemLoc.reg barS), bigSep_erase (Finset.mem_erase.mpr ⟨by decide, Finset.mem_univ (SemLoc.dma (rcvS 0))⟩),
      bigSep_erase (Finset.mem_erase.mpr ⟨by decide, Finset.mem_erase.mpr ⟨by decide, Finset.mem_univ (SemLoc.dma (rcvS 1))⟩⟩)]
    rfl
  rw [h, due_bar, due_rcv0, due_rcv1]
  unfold credits
  iintro ⟨Hb, H0, H1, -⟩
  isplitl [Hb]; · iexact Hb
  isplitl [H0] <;> iassumption

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_credits (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sendbuf
  iintro ⟨Hs, -, Hbuf⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ sendbuf zeros
  iintro ⟨Hbuf, Hb, Hz⟩
  isplitl [Hb]; · iexact Hb
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide)
    · show _ ⊢ MayWait (c : Thread nD τ) _ () 0
      rw [MayWait_zero]
      iintro -
      iempintro

/-- What window `w`'s array of device `c` holds after the run. -/
def finalA (c : Dev nD) (w : Fin cfg0.W) : Buf (Elt F) ((cfg0.win w).arr.view.loc (c : Thread nD τ)) := (dats m ρ 0 c).arrAt w cfg0.N

set_option maxRecDepth 8000 in
/-- From any memory with every counter at zero, for any interpretation of floats: every weakly fair execution of the
    program on the four devices ends, without a fault, and ends with each device's two arrays at `finalA` and every counter
    at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.ExchangeProof

end
-- ==== Proof.Value.lean ====
/-
  What the program computes. The run of Launch.lean, read at the argument and at the result: every device ends with its
  argument unchanged and its result holding `gather` of the four devices' arguments. And where those arguments are the
  parts of one whole array, cut by rows over the mesh's first axis, `gather` is the device's part of the same array cut by
  columns over that axis. The reference, which returns its argument, changes nothing.
-/
module

public import proofs.«01_k».proof.Proof.Launch
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.ExchangeProof

open Cert.KernelIdeal Cert.KernelIdeal.Gen
open Idealize.ShloMosaic Idealize.ShloMosaic.TcCoe
open Idealize.SL.Sem

section Arrays

variable {F : FTy → Type} [FloatOps F]

variable (m : (ℓ : Loc nD τ sig) → Buf (Elt F) ℓ) (ρ : Dev nD → PrngReg)

/-- The one block of the argument window is the argument: what device `c` finds in its staging buffer. -/
theorem xstg_eq (c : Dev nD) : xstg m ρ c = m ((c : Thread nD τ).loc main_arg0) :=
  Memref.read_access_unit_zero (Elt F) main_arg0 (by funext a; revert a; decide) (by decide) _

/-- The argument array ends as it began. -/
theorem final_arg (c : Dev nD) : finalA m ρ c (0 : Fin 2) = m ((c : Thread nD τ).loc main_arg0) :=
  (dats m ρ 0 c).arrAt_in (0 : Fin 2) rfl cfg0.N

/-- The result array ends as the body left the result's staging buffer: its one block is the whole array, and is written
    back after the one grid point. -/
theorem final_result (c : Dev nD) : finalA m ρ c (1 : Fin 2) = gather (fun d : Dev nD => m ((d : Thread nD τ).loc main_arg0)) c := by
  have whole (f : Buf (Elt F) ((c : Thread nD τ).loc main_v1)) : (win0_1.blk (0 : Fin 1)).view.read (Elt F) f = f :=
    Memref.read_access_unit_zero (Elt F) main_v1 (by funext a; revert a; decide) (by decide) f
  have back : (win0_1.blk (0 : Fin 1)).view.read (Elt F) (finalA m ρ c (1 : Fin 2)) = outAt m ρ c :=
    ((dats m ρ 0 c).read_blk_arrAt (1 : Fin 2) (outAt m ρ c) (fun t _ => by
        obtain rfl : t = (0 : Fin 1) := Subsingleton.elim (α := Fin 1) _ _
        exact (whole _).symm) (0 : Fin 1) (flush0_1 (0 : Fin 1))).trans (whole _)
  rw [← whole (finalA m ρ c (1 : Fin 2)), back]
  exact congrArg (gather · c) (funext (xstg_eq m ρ))

/-- The run from any memory with the semaphores at zero: every device's result ends holding `gather` of the devices'
    arguments, its argument is unchanged, and every semaphore is back at zero. -/
theorem run_values :
    θ_run defs (onTc (τ := τ) (main (F := F))) ⟨m, fun _ => 0, ρ⟩ (fun r =>
      (∀ c : Dev nD, r.2.mem ((c : Thread nD τ).loc main_v1) = gather (fun d : Dev nD => m ((d : Thread nD τ).loc main_arg0)) c
        ∧ r.2.mem ((c : Thread nD τ).loc main_arg0) = m ((c : Thread nD τ).loc main_arg0))
      ∧ r.2.sem = fun _ => 0) :=
  (θ_run defs _ _).mono
    (fun _ h => ⟨fun c => ⟨(h.1 c (1 : Fin 2)).trans (final_result m ρ c), (h.1 c (0 : Fin 2)).trans (final_arg m ρ c)⟩, h.2⟩)
    (run_arrays m ρ)

/-- Of that run, what does not depend on the values: the arguments and the semaphores. -/
theorem run_kept :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_values m ρ)

end Arrays

/-! ## Parts of one array -/

/-- Device `c`'s part of an array cut by columns, gathered from the parts the devices hold of it cut by rows: row `i` of
    the array is row `i % 256` of the part of a device in row `i / 256` of the mesh, of which there is one in the mesh column
    of `c`. -/
theorem gather_parts {α : Type} (v : (⟨2, ![512, 512]⟩ : Shape).Idx → α) (c : Dev nD) :
    gather (fun d : Dev nD => Layout.blockN ⟨2, ![256, 512]⟩ ⟨2, ![512, 512]⟩ (Layout.meshBlock [2, 2] ![[0], []] d) v) c
      = Layout.blockN ⟨2, ![512, 256]⟩ ⟨2, ![512, 512]⟩ (Layout.meshBlock [2, 2] ![[], [0]] c) v := by
  funext i
  have hi : (i 0).val < 512 := (i 0).isLt
  have hc : c.val < 4 := c.isLt
  unfold gather
  beta_reduce
  rw [Layout.blockN_apply, Layout.blockN_apply]
  refine congrArg v (funext fun a => Fin.ext ?_)
  rw [Layout.TilesN.idx_val, Layout.TilesN.idx_val]
  match a with
  | ⟨0, _⟩ =>
    show ((2 * ((i 0).val / 256) + c.val % 2) / 2 % 2 * 1 + 0) * 256 + (i 0).val % 256 = 0 * 512 + (i 0).val
    omega
  | ⟨1, _⟩ =>
    show 0 * 512 + (256 * (c.val / 2) + (i 1).val) = (c.val / 2 % 2 * 1 + 0) * 256 + (i 1).val
    omega

end Cert.ExchangeProof

namespace Cert.ExchangeProof.Whole

open Cert.ReferenceIdeal Cert.ReferenceIdeal.Gen
open Idealize.ShloMosaic Idealize.ShloMosaic.TcCoe
open Idealize.SL.Sem

variable {F : FTy → Type} [FloatOps F]

/-- The reference has no operation to run: its argument, which is its result, ends as it began, and it has no semaphore
    to leave raised. -/
theorem run_kept (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ExchangeProof.Whole

end
-- ==== Proof.lean ====
/-
  The claims of Defs.lean, proved from the runs of Proof/Value.lean: the kernel and its idealization end with their
  arguments unchanged and their semaphores at zero, the reference likewise, and the idealized kernel's results are the
  parts of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two printings of the kernel, as it is and as its idealization, have the same bodies, -/
theorem bodies_eq {F : FTy → Type} [FloatOps F] : Cert.KernelIdeal.defs (F := F) = Cert.Kernel.defs :=
  congrArg (Pipeline.defs Cert.KernelIdeal.pcfgs) (congrArg Defs.onTc (funext fun l => funext fun a => match l, a with
    | ⟨0, _⟩, (_, _) => rfl))

/-- so what is proved of the run for any floats is proved of the kernel: it runs, its argument unchanged and its
    semaphores back at zero. -/
theorem kernel_frame : Cert.quiescent_Kernel := fun m ρ _ => by
  rw [← bodies_eq]
  exact ExchangeProof.run_kept (F := Bits) m ρ

/-- So does its idealization. -/
theorem ideal_frame : Cert.quiescent_KernelIdeal := fun m ρ _ => ExchangeProof.run_kept (F := Ideal) m ρ

/-- The reference keeps its argument and has no semaphore. -/
theorem reference_frame : Cert.quiescent_ReferenceIdeal := fun m ρ _ => ExchangeProof.Whole.run_kept m ρ

/-- Started on the parts of the reference's argument cut by rows, the devices end with the parts of the reference's
    result, the same array, cut by columns. -/
theorem ideal_value : Cert.algebraic_KernelIdeal_ReferenceIdeal := by
  intro m ρ m' ρ' _ parts
  refine ⟨m' _, ?_, (θ_run Cert.ReferenceIdeal.defs _ _).mono (fun _ h => ⟨h.1 0, h.1 0⟩) (ExchangeProof.Whole.run_kept m' ρ')⟩
  refine (θ_run Cert.KernelIdeal.defs _ _).mono (fun _ h c => ⟨(h.1 c).1.trans ?_, (h.1 c).2⟩) (ExchangeProof.run_values m ρ)
  exact (congrArg (ExchangeProof.gather · c) (funext parts)).trans (ExchangeProof.gather_parts _ c)

/-- Every claim made of the kernel. -/
theorem claim : Cert.Claim :=
  ⟨Cert.Kernel.Gen.facts, Cert.KernelIdeal.Gen.facts, Cert.ReferenceIdeal.Gen.facts,
    kernel_frame, ideal_frame, reference_frame, trivial, ideal_value⟩

end Cert.Proof

end
